-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_nonzero [hPre_scale_nonzero : Cert.Pre_scale_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_scale_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_nonzero [hPre_scale_nonzero : Cert.Pre_scale_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scale_nonzero [hKernelIdeal : Cert.KernelIdeal.Facts] [hPre_scale_nonzero : Cert.Pre_scale_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scale_nonzero [hReferenceIdeal : Cert.ReferenceIdeal.Facts] [hPre_scale_nonzero : Cert.Pre_scale_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scale_nonzero [hKernelIdeal : Cert.KernelIdeal.Facts] [hReferenceIdeal : Cert.ReferenceIdeal.Facts] [hPre_scale_nonzero : Cert.Pre_scale_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scale_nonzero : Cert.Pre_scale_nonzero.Facts),
    quiescent_Kernel (hKernel := hKernel)
    ∧ quiescent_KernelIdeal (hKernelIdeal := hKernelIdeal)
    ∧ quiescent_KernelIdeal_pre_scale_nonzero (hKernelIdeal := hKernelIdeal) (hPre_scale_nonzero := hPre_scale_nonzero)
    ∧ quiescent_ReferenceIdeal (hReferenceIdeal := hReferenceIdeal)
    ∧ quiescent_ReferenceIdeal_pre_scale_nonzero (hReferenceIdeal := hReferenceIdeal) (hPre_scale_nonzero := hPre_scale_nonzero)
    ∧ preserves_Kernel_KernelIdeal
    ∧ algebraic_KernelIdeal_ReferenceIdeal_pre_scale_nonzero (hKernelIdeal := hKernelIdeal) (hReferenceIdeal := hReferenceIdeal) (hPre_scale_nonzero := hPre_scale_nonzero)
-- ==== Pre_scale_nonzero.lean ====
abbrev S101x101 : Shape := ⟨2, ![101, 101]⟩
abbrev S_ : Shape := ⟨0, ![]⟩

class Facts : Prop where

variable [Facts]

def fn {F : FTy → Type} [FloatOps F] (main_arg0 : FVec F S101x101 .f32) (main_arg1 : FVec F S_ .f32) : IVec S_ 1 :=
  let main_cst : FVec F S_ .f32 := constant S_ .f32 0x00000000#32
  let main_v0 : IVec S_ 1 := cmpf .une main_arg1 main_cst
  main_v0
-- ==== Kernel.lean ====
abbrev S101x101 : Shape := ⟨2, ![101, 101]⟩
abbrev S_ : Shape := ⟨0, ![]⟩
abbrev S1x1 : Shape := ⟨2, ![1, 1]⟩
abbrev S8x216x256 : Shape := ⟨3, ![8, 216, 256]⟩
abbrev S8x200x104 : Shape := ⟨3, ![8, 200, 104]⟩
abbrev S3x101 : Shape := ⟨2, ![3, 101]⟩
abbrev S104x101 : Shape := ⟨2, ![104, 101]⟩
abbrev S104x50 : Shape := ⟨2, ![104, 50]⟩
abbrev S104x105 : Shape := ⟨2, ![104, 105]⟩
abbrev S104x256 : Shape := ⟨2, ![104, 256]⟩
abbrev S56x256 : Shape := ⟨2, ![56, 256]⟩
abbrev S64x256 : Shape := ⟨2, ![64, 256]⟩
abbrev S224x256 : Shape := ⟨2, ![224, 256]⟩
abbrev S216x256 : Shape := ⟨2, ![216, 256]⟩
abbrev S1x216x256 : Shape := ⟨3, ![1, 216, 256]⟩
abbrev S1x104x256 : Shape := ⟨3, ![1, 104, 256]⟩
abbrev S256x104 : Shape := ⟨2, ![256, 104]⟩
abbrev S200x104 : Shape := ⟨2, ![200, 104]⟩
abbrev S1x200x104 : Shape := ⟨3, ![1, 200, 104]⟩
abbrev S1x104x104 : Shape := ⟨3, ![1, 104, 104]⟩
abbrev S104x104 : Shape := ⟨2, ![104, 104]⟩

abbrev nBuf : Space → Nat
  | .hbm => 4
  | .vmem => 4
  | .smem => 1
  | _ => 0

abbrev bufTy : (tb : Table) → Fin (tcTables nBuf tb) → BufTy
  | .hbm, ⟨0, _⟩ => ⟨S101x101, .f32⟩
  | .hbm, ⟨1, _⟩ => ⟨S_, .f32⟩
  | .hbm, ⟨2, _⟩ => ⟨S1x1, .f32⟩
  | .hbm, ⟨3, _⟩ => ⟨S101x101, .f32⟩
  | .local _ .vmem, ⟨0, _⟩ => ⟨S101x101, .f32⟩
  | .local _ .vmem, ⟨1, _⟩ => ⟨S101x101, .f32⟩
  | .local _ .vmem, ⟨2, _⟩ => ⟨S8x216x256, .f32⟩
  | .local _ .vmem, ⟨3, _⟩ => ⟨S8x200x104, .f32⟩
  | .local _ .smem, ⟨0, _⟩ => ⟨S1x1, .f32⟩
  | _, _ => ⟨S101x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S101x101 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S101x101 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S101x101 : Shape := ⟨2, ![101, 101]⟩
abbrev S_ : Shape := ⟨0, ![]⟩
abbrev S100 : Shape := ⟨1, ![100]⟩
abbrev S1 : Shape := ⟨1, ![1]⟩
abbrev S101 : Shape := ⟨1, ![101]⟩
abbrev S101x1 : Shape := ⟨2, ![101, 1]⟩
abbrev S1x101 : Shape := ⟨2, ![1, 101]⟩
abbrev S201x201 : Shape := ⟨2, ![201, 201]⟩
abbrev S101x201 : Shape := ⟨2, ![101, 201]⟩
abbrev S101x101x1 : Shape := ⟨3, ![101, 101, 1]⟩
abbrev S101x101x101 : Shape := ⟨3, ![101, 101, 101]⟩
abbrev S1x1x101 : Shape := ⟨3, ![1, 1, 101]⟩

abbrev nBuf : Space → Nat
  | .hbm => 99
  | .vmem => 0
  | .smem => 0
  | _ => 0

abbrev bufTy : (tb : Table) → Fin (tcTables nBuf tb) → BufTy
  | .hbm, ⟨0, _⟩ => ⟨S101x101, .f32⟩
  | .hbm, ⟨1, _⟩ => ⟨S_, .f32⟩
  | .hbm, ⟨2, _⟩ => ⟨S_, .i32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S100, .f32⟩
  | .hbm, ⟨10, _⟩ => ⟨S_, .f32⟩
  | .hbm, ⟨11, _⟩ => ⟨S100, .f32⟩
  | .hbm, ⟨12, _⟩ => ⟨S100, .f32⟩
  | .hbm, ⟨13, _⟩ => ⟨S1, .f32⟩
  | .hbm, ⟨14, _⟩ => ⟨S_, .f32⟩
  | .hbm, ⟨15, _⟩ => ⟨S100, .f32⟩
  | .hbm, ⟨16, _⟩ => ⟨S100, .f32⟩
  | .hbm, ⟨17, _⟩ => ⟨S100, .f32⟩
  | .hbm, ⟨18, _⟩ => ⟨S100, .f32⟩
  | .hbm, ⟨19, _⟩ => ⟨S1, .f32⟩
  | .hbm, ⟨20, _⟩ => ⟨S100, .f32⟩
  | .hbm, ⟨21, _⟩ => ⟨S100, .f32⟩
  | .hbm, ⟨22, _⟩ => ⟨S100, .f32⟩
  | .hbm, ⟨23, _⟩ => ⟨S1, .f32⟩
  | .hbm, ⟨24, _⟩ => ⟨S101, .f32⟩
  | .hbm, ⟨25, _⟩ => ⟨S101x1, .f32⟩
  | .hbm, ⟨26, _⟩ => ⟨S101x1, .f32⟩
  | .hbm, ⟨27, _⟩ => ⟨S1x101, .f32⟩
  | .hbm, ⟨28, _⟩ => ⟨S1x101, .f32⟩
  | .hbm, ⟨29, _⟩ => ⟨S101x101, .f32⟩
  | .hbm, ⟨30, _⟩ => ⟨S101x101, .f32⟩
  | .hbm, ⟨31, _⟩ => ⟨S101x101, .f32⟩
  | .hbm, ⟨32, _⟩ => ⟨S101x101, .f32⟩
  | .hbm, ⟨33, _⟩ => ⟨S_, .f32⟩
  | .hbm, ⟨34, _⟩ => ⟨S_, .f32⟩
  | .hbm, ⟨35, _⟩ => ⟨S101x101, .f32⟩
  | .hbm, ⟨36, _⟩ => ⟨S101x101, .f32⟩
  | .hbm, ⟨37, _⟩ => ⟨S_, .f32⟩
  | .hbm, ⟨38, _⟩ => ⟨S_, .f32⟩
  | .hbm, ⟨39, _⟩ => ⟨S201x201, .f32⟩
  | .hbm, ⟨40, _⟩ => ⟨S101, .i32⟩
  | .hbm, ⟨41, _⟩ => ⟨S101x1, .i32⟩
  | .hbm, ⟨42, _⟩ => ⟨S1x101, .i32⟩
  | .hbm, ⟨43, _⟩ => ⟨S101x101, .i32⟩
  | .hbm, ⟨44, _⟩ => ⟨S101x101, .i32⟩
  | .hbm, ⟨45, _⟩ => ⟨S101x101, .i32⟩
  | .hbm, ⟨46, _⟩ => ⟨S_, .f32⟩
  | .hbm, ⟨47, _⟩ => ⟨S101x101, .f32⟩
  | .hbm, ⟨48, _⟩ => ⟨S_, .i32⟩
  | .hbm, ⟨49, _⟩ => ⟨S101, .i32⟩
  | .hbm, ⟨50, _⟩ => ⟨S201x201, .f32⟩
  | .hbm, ⟨51, _⟩ => ⟨S101x101, .i32⟩
  | .hbm, ⟨52, _⟩ => ⟨S101x101, .f32⟩
  | .hbm, ⟨53, _⟩ => ⟨S_, .i32⟩
  | .hbm, ⟨54, _⟩ => ⟨S101x101, .f32⟩
  | .hbm, ⟨55, _⟩ => ⟨S_, .i32⟩
  | .hbm, ⟨56, _⟩ => ⟨S_, .i1⟩
  | .hbm, ⟨57, _⟩ => ⟨S1, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S101x201, .f32⟩
  | .hbm, ⟨66, _⟩ => ⟨S_, .i32⟩
  | .hbm, ⟨67, _⟩ => ⟨S101x101, .i32⟩
  | .hbm, ⟨68, _⟩ => ⟨S101x101, .i1⟩
  | .hbm, ⟨69, _⟩ => ⟨S_, .i32⟩
  | .hbm, ⟨70, _⟩ => ⟨S101x101, .i32⟩
  | .hbm, ⟨71, _⟩ => ⟨S101x101, .i32⟩
  | .hbm, ⟨72, _⟩ => ⟨S101x101, .i32⟩
  | .hbm, ⟨73, _⟩ => ⟨S101x101x1, .i32⟩
  | .hbm, ⟨74, _⟩ => ⟨S101x101x101, .f32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x101, .f32⟩
  | .hbm, ⟨89, _⟩ => ⟨S101, .f32⟩
  | .hbm, ⟨90, _⟩ => ⟨S1x1x101, .f32⟩
  | .hbm, ⟨91, _⟩ => ⟨S101x101x101, .f32⟩
  | .hbm, ⟨92, _⟩ => ⟨S101x101x101, .f32⟩
  | .hbm, ⟨93, _⟩ => ⟨S_, .f32⟩
  | .hbm, ⟨94, _⟩ => ⟨S101x101, .f32⟩
  | .hbm, ⟨95, _⟩ => ⟨S101x101, .f32⟩
  | .hbm, ⟨96, _⟩ => ⟨S101x101, .f32⟩
  | .hbm, ⟨97, _⟩ => ⟨S_, .i32⟩
  | .hbm, ⟨98, _⟩ => ⟨S_, .i32⟩
  | _, _ => ⟨S101x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_call1_v0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_c_3 : Ref sig .tc := ⟨.hbm, 48, rfl⟩
abbrev main_v20_0 : Ref sig .tc := ⟨.hbm, 49, rfl⟩
abbrev main_v20_1 : Ref sig .tc := ⟨.hbm, 50, rfl⟩
abbrev main_v20_2 : Ref sig .tc := ⟨.hbm, 51, rfl⟩
abbrev main_v20_3 : Ref sig .tc := ⟨.hbm, 52, rfl⟩
abbrev main_v20_4 : Ref sig .tc := ⟨.hbm, 53, rfl⟩
abbrev main_v20_5 : Ref sig .tc := ⟨.hbm, 54, rfl⟩
abbrev main_while0c_c_9 : Ref sig .tc := ⟨.hbm, 55, rfl⟩
abbrev main_while0c_v21 : Ref sig .tc := ⟨.hbm, 56, rfl⟩
abbrev main_while0b_call2_v0 : Ref sig .tc := ⟨.hbm, 57, rfl⟩
abbrev main_while0b_v21 : Ref sig .tc := ⟨.hbm, 58, rfl⟩
abbrev main_while0b_c_9 : Ref sig .tc := ⟨.hbm, 59, rfl⟩
abbrev main_while0b_v22 : Ref sig .tc := ⟨.hbm, 60, rfl⟩
abbrev main_while0b_c_10 : Ref sig .tc := ⟨.hbm, 61, rfl⟩
abbrev main_while0b_v23 : Ref sig .tc := ⟨.hbm, 62, rfl⟩
abbrev main_while0b_v24 : Ref sig .tc := ⟨.hbm, 63, rfl⟩
abbrev main_while0b_c_11 : Ref sig .tc := ⟨.hbm, 64, rfl⟩
abbrev main_while0b_v25 : Ref sig .tc := ⟨.hbm, 65, rfl⟩
abbrev main_while0b_c_12 : Ref sig .tc := ⟨.hbm, 66, rfl⟩
abbrev main_while0b_v26 : Ref sig .tc := ⟨.hbm, 67, rfl⟩
abbrev main_while0b_v27 : Ref sig .tc := ⟨.hbm, 68, rfl⟩
abbrev main_while0b_c_13 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_c_14 : Ref sig .tc := ⟨.hbm, 75, rfl⟩
abbrev main_while0b_v33 : Ref sig .tc := ⟨.hbm, 76, rfl⟩
abbrev main_while0b_c_15 : Ref sig .tc := ⟨.hbm, 77, rfl⟩
abbrev main_while0b_v34 : Ref sig .tc := ⟨.hbm, 78, rfl⟩
abbrev main_while0b_v35 : Ref sig .tc := ⟨.hbm, 79, rfl⟩
abbrev main_while0b_c_16 : Ref sig .tc := ⟨.hbm, 80, rfl⟩
abbrev main_while0b_c_17 : Ref sig .tc := ⟨.hbm, 81, rfl⟩
abbrev main_while0b_v36 : Ref sig .tc := ⟨.hbm, 82, rfl⟩
abbrev main_while0b_c_18 : Ref sig .tc := ⟨.hbm, 83, rfl⟩
abbrev main_while0b_c_19 : Ref sig .tc := ⟨.hbm, 84, rfl⟩
abbrev main_while0b_v37 : Ref sig .tc := ⟨.hbm, 85, rfl⟩
abbrev main_while0b_c_20 : Ref sig .tc := ⟨.hbm, 86, rfl⟩
abbrev main_while0b_v38 : Ref sig .tc := ⟨.hbm, 87, rfl⟩
abbrev main_while0b_v39 : Ref sig .tc := ⟨.hbm, 88, rfl⟩
abbrev main_while0b_v40 : Ref sig .tc := ⟨.hbm, 89, rfl⟩
abbrev main_while0b_v41 : Ref sig .tc := ⟨.hbm, 90, rfl⟩
abbrev main_while0b_v42 : Ref sig .tc := ⟨.hbm, 91, rfl⟩
abbrev main_while0b_v43 : Ref sig .tc := ⟨.hbm, 92, rfl⟩
abbrev main_while0b_cst_21 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_c_22 : Ref sig .tc := ⟨.hbm, 97, rfl⟩
abbrev main_while0b_v47 : Ref sig .tc := ⟨.hbm, 98, rfl⟩

abbrev nD : Nat := 1
abbrev τ : Topo := Topo.v7x

variable {F : FTy → Type} [FloatOps F]

abbrev main_while0_count : Scf.Loop 32 := ⟨0#32, 101#32, 1#32⟩
-- ==== Proof.Stack.lean ====
/-
  What the two scratch stacks hold. The kernel stores eight slices of one array, slice `b` starting at row `b`, one on
  top of the other, and afterwards reads `H` consecutive rows from row `t` of that array as rows from `t - t % 8` of
  slice `t % 8`. `stack_tap_apply` says that this reads the array at row `t` on.
-/
module

public import Idealize.ShloMosaic.Lib.Pipeline.FrameBody
public import Idealize.ShloMosaic.Lib.Pipeline.Value
public import Idealize.ShloMosaic.Lib.ValueIdxCore

@[expose] public section

noncomputable section

namespace Cert.Dilate

open Idealize.ShloMosaic Idealize.ShloMosaic.ValueIdx Idealize.SL.Sem

variable {Val : EltTy → Type} {M R C : ℕ}

/-- The rectangle of slice `b` in the stack. -/
def stackRect (R C : ℕ) (b : Fin 8) : Rect (⟨3, ![8, R, C]⟩ : Shape) :=
  Rect.unit ![b.val, 0, 0] (⟨3, ![1, R, C]⟩ : Shape).size (by
    intro a
    match a with
    | ⟨0, _⟩ => have := b.isLt; show b.val + 1 ≤ 8; omega
    | ⟨1, _⟩ => show 0 + R ≤ R; omega
    | ⟨2, _⟩ => show 0 + C ≤ C; omega)

/-- The store of slice `b`: rows `b` to `b + R` of `cv`, with a unit axis in front. -/
def stackPiece {e : EltTy} (cv : (⟨2, ![M, C]⟩ : Shape).Idx → Val e)
    (hs : ∀ b : Fin 8, (⟨2, ![M, C]⟩ : Shape).Slices ![b.val, 0] ⟨2, ![R, C]⟩)
    (hc : (⟨2, ![R, C]⟩ : Shape).ShapeCasts ⟨3, ![1, R, C]⟩) (b : Fin 8) :
    View.Piece Val (⟨3, ![8, R, C]⟩ : Shape) e :=
  ⟨stackRect R C b, shapeCast ⟨3, ![1, R, C]⟩ (extractStridedSlice ⟨2, ![R, C]⟩ ![b.val, 0] cv (hs b)) hc⟩

/-- The eight stores, the last one made first. -/
def stack {e : EltTy} (cv : (⟨2, ![M, C]⟩ : Shape).Idx → Val e)
    (hs : ∀ b : Fin 8, (⟨2, ![M, C]⟩ : Shape).Slices ![b.val, 0] ⟨2, ![R, C]⟩)
    (hc : (⟨2, ![R, C]⟩ : Shape).ShapeCasts ⟨3, ![1, R, C]⟩) : List (View.Piece Val (⟨3, ![8, R, C]⟩ : Shape) e) :=
  [stackPiece cv hs hc 7, stackPiece cv hs hc 6, stackPiece cv hs hc 5, stackPiece cv hs hc 4,
   stackPiece cv hs hc 3, stackPiece cv hs hc 2, stackPiece cv hs hc 1, stackPiece cv hs hc 0]

/-- The store of slice `b` is one of the eight stores. -/
theorem stackPiece_mem {e : EltTy} (cv : (⟨2, ![M, C]⟩ : Shape).Idx → Val e) (hs) (hc) (b : Fin 8) :
    stackPiece (R := R) cv hs hc b ∈ stack cv hs hc := by
  fin_cases b <;> simp [stack]

/-- A store of the stack is the store of one of the eight slices. -/
theorem eq_stackPiece_of_mem {e : EltTy} (cv : (⟨2, ![M, C]⟩ : Shape).Idx → Val e) (hs) (hc)
    (p : View.Piece Val (⟨3, ![8, R, C]⟩ : Shape) e) (hp : p ∈ stack cv hs hc) : ∃ b, p = stackPiece cv hs hc b := by
  simp only [stack, List.mem_cons, List.not_mem_nil, or_false] at hp
  rcases hp with h | h | h | h | h | h | h | h <;> exact ⟨_, h⟩

/-- Slice and row of a stack index add up to a row of the array. -/
theorem row_lt (hM : R + 7 ≤ M) (y : (⟨3, ![8, R, C]⟩ : Shape).Idx) : (y 0).val + (y 1).val < M := by
  have h0 : (y 0).val < 8 := (y 0).isLt
  have h1 : (y 1).val < R := (y 1).isLt
  omega

/-- The stack holds, at row `k` of slice `b`, row `b + k` of the array. -/
theorem stack_apply [∀ e, Nonempty (Val e)] {e : EltTy} (hM : R + 7 ≤ M) (cv : (⟨2, ![M, C]⟩ : Shape).Idx → Val e) (hs) (hc)
    (y : (⟨3, ![8, R, C]⟩ : Shape).Idx) :
    View.canon (stack (R := R) cv hs hc) y = cv (ix2 ⟨(y 0).val + (y 1).val, row_lt (C := C) hM y⟩ (y 2 : Fin C)) := by
  refine View.canon_apply_of_pieces (fun y => cv (ix2 ⟨(y 0).val + (y 1).val, row_lt (C := C) hM y⟩ (y 2 : Fin C))) _ ?_ y ?_
  · intro p hp x
    obtain ⟨b, rfl⟩ := eq_stackPiece_of_mem cv hs hc p hp
    have hx0 : (x 0).val < 1 := (x 0).isLt
    refine (shapeCast_addUnit_apply (n := 2) ![R, C] (extractStridedSlice ⟨2, ![R, C]⟩ ![b.val, 0] cv (hs b)) hc x).trans ?_
    refine congrArg cv (funext fun a => Fin.ext ?_)
    match a with
    | ⟨0, _⟩ =>
      show b.val + (x 1).val = (b.val + 1 * (x 0).val) + (0 + 1 * (x 1).val)
      omega
    | ⟨1, _⟩ =>
      show 0 + (x 2).val = 0 + 1 * (x 2).val
      omega
  · refine ⟨stackPiece cv hs hc (y 0), stackPiece_mem cv hs hc _, ?_⟩
    show y ∈ (stackRect R C (y 0)).set
    refine LoadRect.mem_set _ |>.mpr fun a => ?_
    match a with
    | ⟨0, _⟩ => exact ⟨0, Nat.one_pos, rfl⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩

/-- The box of `H` rows from row `t` of the array, as it lies in the stack. -/
theorem tap_inb {t H : ℕ} (ht : t + H ≤ R + t % 8) (a : Fin 3) :
    (![t % 8, t - t % 8, 0] : Fin 3 → ℕ) a + (⟨3, ![1, H, C]⟩ : Shape).size a ≤ (⟨3, ![8, R, C]⟩ : Shape).size a := by
  match a with
  | ⟨0, _⟩ => show t % 8 + 1 ≤ 8; omega
  | ⟨1, _⟩ => show t - t % 8 + H ≤ R; omega
  | ⟨2, _⟩ => show 0 + C ≤ C; omega

/-- What the kernel reads out of the stack for the tap at row `t`: `H` rows, the unit axis dropped. -/
def tap [∀ e, Nonempty (Val e)] {sig : RefSig} {κ : Kind} {sp : Space} {e : EltTy} {H : ℕ}
    (v : View sig κ sp (⟨3, ![8, R, C]⟩ : Shape) e) (L : List (View.Piece Val (⟨3, ![8, R, C]⟩ : Shape) e))
    (hd : (⟨3, ![1, H, C]⟩ : Shape).ShapeCasts ⟨2, ![H, C]⟩) (t : ℕ) (ht : t + H ≤ R + t % 8) :
    (⟨2, ![H, C]⟩ : Shape).Idx → Val e :=
  shapeCast ⟨2, ![H, C]⟩ (v.readCov L
    (Rect.unit (s := ⟨3, ![8, R, C]⟩) ![t % 8, t - t % 8, 0] (⟨3, ![1, H, C]⟩ : Shape).size (tap_inb (C := C) ht)).toLoadRect) hd

/-- The tap at row `t` reads the array from row `t` on. -/
theorem stack_tap_apply [∀ e, Nonempty (Val e)] {sig : RefSig} {κ : Kind} {sp : Space} {e : EltTy} {H : ℕ}
    (v : View sig κ sp (⟨3, ![8, R, C]⟩ : Shape) e) (hM : R + 7 ≤ M) (cv : (⟨2, ![M, C]⟩ : Shape).Idx → Val e) (hs) (hc) (hd)
    (t : ℕ) (ht : t + H ≤ R + t % 8) (a : Fin H) (b : Fin C) :
    tap v (stack (R := R) cv hs hc) hd t ht (ix2 a b) = cv (ix2 ⟨t + a.val, by have := a.isLt; omega⟩ b) := by
  unfold tap
  refine (shapeCast_dropUnit_apply (n := 2) ![H, C] _ hd (ix2 a b)).trans ?_
  rw [View.readCov_eq_canon']
  refine (stack_apply hM cv hs hc _).trans (congrArg cv (funext fun k => Fin.ext ?_))
  match k with
  | ⟨0, _⟩ =>
    show (t % 8 + 1 * 0) + (t - t % 8 + 1 * a.val) = t + a.val
    omega
  | ⟨1, _⟩ => show 0 + 1 * b.val = b.val; omega

end Cert.Dilate

end
-- ==== Proof.Words.lean ====
/-
  What the kernel's float32 words denote: `wholeWord k` is the pattern of the whole number `k`, and the pattern the
  scale divides is minus a quarter.
-/
module

public import Idealize.ShloMosaic.PureOps.Ideal.Laws

@[expose] public section

noncomputable section

namespace Cert.Dilate

open Idealize.ShloMosaic

/-- The float32 pattern of the whole number `k`, for `1 ≤ k < 2 ^ 24`. -/
def wholeWord (k : ℕ) : BitVec 32 :=
  BitVec.ofNat 32 ((127 + Nat.log2 k) * 2 ^ 23 + (k - 2 ^ Nat.log2 k) * 2 ^ (23 - Nat.log2 k))

/-- A float32 pattern with exponent field `127 + e` and fraction field `f`, as the real it denotes. -/
theorem ofBits_fields (e f : ℕ) (he : e < 24) (hf : f < 2 ^ 23) :
    Ideal.ofBits .f32 (BitVec.ofNat 32 ((127 + e) * 2 ^ 23 + f))
      = (((2 ^ 23 + f : ℕ) * (2 : ℝ) ^ ((e : ℤ) - 23) : ℝ) : EReal) := by
  have hw : (BitVec.ofNat 32 ((127 + e) * 2 ^ 23 + f)).toNat = (127 + e) * 2 ^ 23 + f := by
    rw [BitVec.toNat_ofNat]; omega
  have hn : ((BitVec.ofNat 32 ((127 + e) * 2 ^ 23 + f)).extractLsb' (8 + 23) 1 == 1#1) = false := by
    rw [beq_eq_false_iff_ne]
    intro h
    have := congrArg BitVec.toNat h
    rw [BitVec.extractLsb'_toNat, hw, Nat.shiftRight_eq_div_pow] at this
    simp at this
    omega
  have hx : ((BitVec.ofNat 32 ((127 + e) * 2 ^ 23 + f)).extractLsb' 23 8).toNat = 127 + e := by
    rw [BitVec.extractLsb'_toNat, hw, Nat.shiftRight_eq_div_pow]; omega
  have hr : ((BitVec.ofNat 32 ((127 + e) * 2 ^ 23 + f)).extractLsb' 0 23).toNat = f := by
    rw [BitVec.extractLsb'_toNat, hw, Nat.shiftRight_eq_div_pow]; omega
  show Ideal.ieee 8 23 _ = _
  unfold Ideal.ieee
  simp only [hn, hx, hr]
  rw [if_neg (by omega), if_neg (by omega)]
  congr 1
  simp only [Bool.false_eq_true, if_false, one_mul]
  congr 2
  push_cast
  ring

/-- The pattern of a whole number denotes it. -/
theorem ofBits_wholeWord (k : ℕ) (h1 : 1 ≤ k) (h2 : k < 2 ^ 24) :
    Ideal.ofBits .f32 (wholeWord k) = ((k : ℝ) : EReal) := by
  have hlo : 2 ^ Nat.log2 k ≤ k := Nat.log2_self_le (by omega)
  have hhi : k < 2 ^ (Nat.log2 k + 1) := Nat.lt_log2_self
  have he : Nat.log2 k < 24 := (Nat.log2_lt (by omega)).2 h2
  generalize hE : Nat.log2 k = e at *
  have hpow : 2 ^ e * 2 ^ (23 - e) = 2 ^ 23 := by rw [← pow_add]; congr 1; omega
  have hf : (k - 2 ^ e) * 2 ^ (23 - e) < 2 ^ 23 := by
    rw [← hpow]
    refine Nat.mul_lt_mul_of_pos_right ?_ (by positivity)
    rw [pow_succ] at hhi
    omega
  have hsum : 2 ^ 23 + (k - 2 ^ e) * 2 ^ (23 - e) = k * 2 ^ (23 - e) := by
    rw [← hpow, ← Nat.add_mul]; congr 1; omega
  unfold wholeWord
  rw [hE, ofBits_fields e _ he hf, hsum]
  congr 1
  push_cast
  rw [mul_assoc, ← zpow_natCast (2 : ℝ) (23 - e), ← zpow_add₀ (by norm_num), Nat.cast_sub (by omega)]
  simp

/-- The pattern the kernel divides by the scale is minus a quarter. -/
theorem ofBits_negQuarter : Ideal.ofBits .f32 0xBE800000#32 = ((-1 / 4 : ℝ) : EReal) := by
  simp [Ideal.ofBits, Ideal.ieee, -EReal.coe_mul, -EReal.coe_neg]; norm_num

/-- The pattern both programs pad with denotes `⊥`. -/
theorem ofBits_negInf : Ideal.ofBits .f32 0xFF800000#32 = ⊥ := by
  simp [Ideal.ofBits, Ideal.ieee]

/-- The pattern the reference multiplies the scale by is four. -/
theorem ofBits_four : Ideal.ofBits .f32 0x40800000#32 = 4 := by
  rw [show (4 : EReal) = ((4 : ℝ) : EReal) by norm_cast]
  simp [Ideal.ofBits, Ideal.ieee, -EReal.coe_mul]; norm_num

/-- The pattern the reference divides its point numbers by is a hundred. -/
theorem ofBits_hundred : Ideal.ofBits .f32 0x42C80000#32 = ((100 : ℝ) : EReal) := by
  simp [Ideal.ofBits, Ideal.ieee, -EReal.coe_mul]; norm_num

end Cert.Dilate
-- ==== Proof.KernelFold.lean ====
/-
  What the kernel's body leaves in its result block, as two folds over the taps. `fold` is one pass: it starts from the
  centre tap and takes the other taps in pairs at equal distance from the centre, each pair with one weight. `block` is
  the body's whole value: the canvas stacked, the first pass, its transpose stacked, the second pass, transposed and cut
  to the image. `out_eq_block` says that the generated run computes exactly `block`, for every float instance.
-/
module

public import proofs.«01_k».proof.Proof.Gen.KernelIdeal.Value
public import proofs.«01_k».proof.Proof.Stack
public import proofs.«01_k».proof.Proof.Words
public import Idealize.ShloMosaic.Lib.WholeRead
import all proofs.«01_k».proof.Proof.Gen.KernelIdeal.Frame.RunA

@[expose] public section

set_option maxRecDepth 65536

noncomputable section

namespace Cert.Dilate

open Cert.KernelIdeal Cert.KernelIdeal.Gen Idealize.ShloMosaic.TcCoe Idealize.SL.Sem
open Idealize.ShloMosaic

variable {F : FTy → Type} [FloatOps F]

/-- One pass after `n` pairs of taps: the centre tap, then for each `i < n` the larger of the taps `i` and `100 - i` plus
    `(50 - i) ^ 2` times the kernel's scale word `s`. -/
def fold {σ : Shape} (T : ℕ → FVec F σ .f32) (s : F .f32) : ℕ → FVec F σ .f32
  | 0 => T 50
  | n + 1 => maximumf (fold T s n)
      (addf (maximumf (T n) (T (100 - n))) (broadcast σ (Scalar.mulf (Scalar.ofBits .f32 (wholeWord ((50 - n) * (50 - n)))) s)))

/-- Slice `b` of the canvas lies inside it. -/
theorem slices1 (b : Fin 8) : S224x256.Slices ![b.val, 0] S216x256 := by revert b; decide
/-- Slice `b` of the first pass's result lies inside it. -/
theorem slices2 (b : Fin 8) : S256x104.Slices ![b.val, 0] S200x104 := by revert b; decide
/-- A tap of the first pass lies inside its slice. -/
theorem tap1_fits (n : ℕ) : (n % 101 + 6) + 104 ≤ 216 + (n % 101 + 6) % 8 := by omega
/-- A tap of the second pass lies inside its slice. -/
theorem tap2_fits (n : ℕ) : n % 101 + 104 ≤ 200 + n % 101 % 8 := by omega

/-- The first pass's stores: the slices of the canvas `cv`. -/
def stack1 (cv : FVec F S224x256 .f32) := stack (Val := Elt F) (e := .f32) cv slices1 shapeCasts_S216x256_S1x216x256
/-- The second pass's stores: the slices of the first pass's transposed result. -/
def stack2 (g : FVec F S256x104 .f32) := stack (Val := Elt F) (e := .f32) g slices2 shapeCasts_S200x104_S1x200x104

/-- The first pass over the stack of `cv`, transposed. -/
def pass1 (arg4 : Memref sig .tc .vmem S8x216x256 .f32) (s : F .f32) (cv : FVec F S224x256 .f32) : FVec F S256x104 .f32 :=
  transpose S256x104 [1, 0]
    (fold (fun n => tap (H := 104) arg4.view (stack1 cv) shapeCasts_S1x104x256_S104x256 (n % 101 + 6) (tap1_fits n)) s 50)
    transposes_S104x256_p1_0_S256x104

/-- The second pass over the stack of `g`, transposed. -/
def pass2 (arg5 : Memref sig .tc .vmem S8x200x104 .f32) (s : F .f32) (g : FVec F S256x104 .f32) : FVec F S104x104 .f32 :=
  transpose S104x104 [1, 0]
    (fold (fun n => tap (H := 104) arg5.view (stack2 g) shapeCasts_S1x104x104_S104x104 (n % 101) (tap2_fits n)) s 50)
    transposes_S104x104_p1_0_S104x104

/-- The body's result block. -/
def block (arg4 : Memref sig .tc .vmem S8x216x256 .f32) (arg5 : Memref sig .tc .vmem S8x200x104 .f32) (s : F .f32)
    (x : FVec F S101x101 .f32) : FVec F S101x101 .f32 :=
  extractStridedSlice S101x101 ![0, 0] (pass2 arg5 (k0_pay2 s) (pass1 arg4 (k0_pay2 s) (k0_pay3 x)))
    slices_S104x104_o0_0_S101x101

/-- The body's result block, of the loads from the two input blocks: `block` of the scale loaded and the image loaded. -/
theorem out_eq_block (c : Dev nD) (i : grid0.Coords) (arg1 : Memref sig .tc .smem S1x1 .f32) (harg1 : arg1.IsWhole) (arg2 : Memref sig .tc .vmem S101x101 .f32) (harg2 : arg2.IsWhole) (arg3 : Memref sig .tc .vmem S101x101 .f32) (harg3 : arg3.IsWhole) (arg4 : Memref sig .tc .vmem S8x216x256 .f32) (harg4 : arg4.IsWhole) (arg5 : Memref sig .tc .vmem S8x200x104 .f32) (harg5 : arg5.IsWhole)
    (x0 : Vec F S1x1 .f32) (x1 : Vec F S101x101 .f32) :
    out0_A_2 c i arg1 harg1 arg2 harg2 arg3 harg3 arg4 harg4 arg5 harg5 x0 x1 =
      block arg4 arg5 (kernelRun0_A.sl.r c arg1 harg1 x0)
        (View.readAt (Elt F) arg2.view (Rect.unit ![0, 0] S101x101.size inb_S101x101_S101x101_0_0).toLoadRect (harg2.unread x1)) := by
  unfold out0_A_2
  rw [View.read_writes_eq_canon _ _ _ (cover0_A_2 c _ _ _ _ _ _ _ _ _ _ _ _ _)]
  unfold kernelRun0_A
  dsimp only
  refine (View.canon_unit_zero (by decide) _ _).trans ?_
  sl_kernel_rfl

/-- The body's result block, of the contents `x0` of the scale's block and `x1` of the image's. -/
theorem out_eq (c : Dev nD) (i : grid0.Coords) (arg1 : Memref sig .tc .smem S1x1 .f32) (harg1 : arg1.IsWhole) (arg2 : Memref sig .tc .vmem S101x101 .f32) (harg2 : arg2.IsWhole) (arg3 : Memref sig .tc .vmem S101x101 .f32) (harg3 : arg3.IsWhole) (arg4 : Memref sig .tc .vmem S8x216x256 .f32) (harg4 : arg4.IsWhole) (arg5 : Memref sig .tc .vmem S8x200x104 .f32) (harg5 : arg5.IsWhole)
    (x0 : Vec F S1x1 .f32) (x1 : Vec F S101x101 .f32) :
    out0_A_2 c i arg1 harg1 arg2 harg2 arg3 harg3 arg4 harg4 arg5 harg5 x0 x1 = block arg4 arg5 (x0 (ValueIdx.ix2 0 0)) x1 := by
  have hs : kernelRun0_A.sl.r c arg1 harg1 x0 = x0 (ValueIdx.ix2 0 0) :=
    (harg1.readAt_unread x0 _ _).trans (congrArg x0 (funext fun a => by match a with | 0 => rfl | 1 => rfl))
  have hx : View.readAt (Elt F) arg2.view (Rect.unit ![0, 0] S101x101.size inb_S101x101_S101x101_0_0).toLoadRect (harg2.unread x1) = x1 := by
    rw [View.readAt_eq_ld, harg2.read_unread]
    exact View.ld_unit_zero (by decide) _ _
  rw [out_eq_block, hs, hx]

end Cert.Dilate

end
-- ==== Proof.Dilation.lean ====
/-
  The mathematics of the two programs, over the extended reals. `dilated` is the dilation of an image by a parabola:
  the maximum over a 101 by 101 window of the padded image plus the parabola's value there. `twoPass_eq_dilated` says
  that a pass along one axis followed by a pass along the other gives it, and `pairMax_eq_sup` that a pass may take its
  taps in pairs at equal distance from the centre.
-/
module

public import Idealize.ShloMosaic.Lib.ValueIdxCore
public import Idealize.ShloMosaic.PureOps.Ideal.Laws

@[expose] public section

noncomputable section

namespace Cert.Dilate

open Idealize.ShloMosaic Idealize.ShloMosaic.ValueIdx

/-! ## Maxima over the first naturals -/

/-- The maximum over `Fin n`, folded from `⊥`, is the maximum over the naturals below `n`. -/
theorem fold_max_eq_sup (n : ℕ) (f : ℕ → EReal) :
    (Finset.univ.fold max ⊥ fun k : Fin n => f k.val) = (Finset.range n).sup f := by
  show (Finset.univ.sup fun k : Fin n => f k.val) = _
  refine le_antisymm (Finset.sup_le fun k _ => ?_) (Finset.sup_le fun k hk => ?_)
  · exact Finset.le_sup (f := f) (Finset.mem_range.2 k.isLt)
  · exact Finset.le_sup (f := fun k : Fin n => f k.val) (Finset.mem_univ ⟨k, Finset.mem_range.1 hk⟩)

/-- The maximum over the naturals up to `n` is the maximum below `n` against the value at `n`. -/
theorem sup_range_succ (n : ℕ) (f : ℕ → EReal) :
    (Finset.range (n + 1)).sup f = max ((Finset.range n).sup f) (f n) := by
  rw [Finset.range_add_one, Finset.sup_insert, sup_comm]

/-- Adding to the larger of two is the larger of the two sums. -/
theorem max_add' (a b c : EReal) : max a b + c = max (a + c) (b + c) :=
  Monotone.map_max (f := fun t => t + c) fun _ _ h => add_le_add_left h c

/-- Adding to a maximum is the maximum of the sums. -/
theorem sup_add (n : ℕ) (f : ℕ → EReal) (c : EReal) :
    (Finset.range n).sup f + c = (Finset.range n).sup fun k => f k + c := by
  induction n with
  | zero => simp
  | succ n ih => rw [sup_range_succ, sup_range_succ, max_add', ih]

/-! ## The taps in pairs -/

/-- The running maximum of a pass: the centre tap, then the pairs `(k, 100 - k)`, each with the weight of `k`. -/
def pairMax (T w : ℕ → EReal) : ℕ → EReal
  | 0 => T 50
  | n + 1 => max (pairMax T w n) (max (T n) (T (100 - n)) + w n)

/-- Every value a pair adds is at most the running maximum after it. -/
theorem le_pairMax (T w : ℕ → EReal) (n k : ℕ) (hk : k < n) :
    max (T k) (T (100 - k)) + w k ≤ pairMax T w n := by
  induction n with
  | zero => omega
  | succ n ih =>
    rcases Nat.lt_succ_iff_lt_or_eq.1 hk with h | rfl
    · exact (ih h).trans (le_max_left _ _)
    · exact le_max_right _ _

/-- The centre tap is at most the running maximum. -/
theorem centre_le_pairMax (T w : ℕ → EReal) (n : ℕ) : T 50 ≤ pairMax T w n := by
  induction n with
  | zero => exact le_rfl
  | succ n ih => exact ih.trans (le_max_left _ _)

/-- With weights alike on both sides and none in the centre, the fifty pairs and the centre give the maximum of all
101 taps, each with its weight. -/
theorem pairMax_eq_sup (T w : ℕ → EReal) (hc : w 50 = 0) (hw : ∀ k < 50, w (100 - k) = w k) :
    pairMax T w 50 = (Finset.range 101).sup fun k => T k + w k := by
  have hle : ∀ k < 101, T k + w k ≤ (Finset.range 101).sup fun k => T k + w k := fun k hk =>
    Finset.le_sup (f := fun k => T k + w k) (Finset.mem_range.2 hk)
  refine le_antisymm ?_ (Finset.sup_le fun k hk => ?_)
  · have hstep : ∀ n ≤ 50, pairMax T w n ≤ (Finset.range 101).sup fun k => T k + w k := by
      intro n
      induction n with
      | zero => exact fun _ => by simpa [pairMax, hc] using hle 50 (by omega)
      | succ n ih =>
        intro hn
        refine max_le (ih (by omega)) ?_
        rw [max_add']
        refine max_le (hle n (by omega)) ?_
        rw [← hw n (by omega)]
        exact hle (100 - n) (by omega)
    exact hstep 50 le_rfl
  · have hk := Finset.mem_range.1 hk
    rcases Nat.lt_trichotomy k 50 with h | rfl | h
    · refine le_trans ?_ (le_pairMax T w 50 k h)
      rw [max_add']
      exact le_max_left _ _
    · rw [hc, add_zero]
      exact centre_le_pairMax T w 50
    · refine le_trans ?_ (le_pairMax T w 50 (100 - k) (by omega))
      rw [max_add', ← hw (100 - k) (by omega), show 100 - (100 - k) = k by omega]
      exact le_max_right _ _

/-! ## The dilation -/

/-- The image with fifty cells of `⊥` on every side, at row `a` and column `b`. -/
def padded (x : (⟨2, ![101, 101]⟩ : Shape).Idx → EReal) (a b : ℕ) : EReal :=
  if h : (50 ≤ a ∧ a - 50 < 101) ∧ (50 ≤ b ∧ b - 50 < 101) then x (ix2 ⟨a - 50, h.1.2⟩ ⟨b - 50, h.2.2⟩) else ⊥

/-- One axis' share of the parabola, `-(k - 50)² / (4 s)`, as a whole number times a quotient. -/
def weight (s : EReal) (k : ℕ) : EReal :=
  ((((k : ℝ) - 50) ^ 2 : ℝ) : EReal) * Ideal.div ((-1 / 4 : ℝ) : EReal) s

/-- The weights are alike on both sides of the centre. -/
theorem weight_symm (s : EReal) (k : ℕ) (hk : k < 50) : weight s (100 - k) = weight s k := by
  unfold weight
  congr 2
  rw [Nat.cast_sub (by omega)]
  push_cast
  ring

/-- The centre has no weight. -/
theorem weight_centre (s : EReal) : weight s 50 = 0 := by
  unfold weight
  norm_num

/-- The dilation of the image `x` by the parabola of scale `s`, at row `r` and column `c` of the result. -/
def dilated (x : (⟨2, ![101, 101]⟩ : Shape).Idx → EReal) (s : EReal) (r c : ℕ) : EReal :=
  (Finset.range 101).sup fun i => (Finset.range 101).sup fun j =>
    padded x (i + c) (j + r) + (weight s j + weight s i)

/-- One pass down the rows and one along the columns give the dilation. -/
theorem twoPass_eq_dilated (x : (⟨2, ![101, 101]⟩ : Shape).Idx → EReal) (s : EReal) (r c : ℕ) :
    ((Finset.range 101).sup fun i =>
      ((Finset.range 101).sup fun j => padded x (i + c) (j + r) + weight s j) + weight s i) = dilated x s r c := by
  unfold dilated
  refine Finset.sup_congr rfl fun i _ => ?_
  rw [sup_add]
  exact Finset.sup_congr rfl fun j _ => add_assoc _ _ _

/-- The inverse of a nonzero extended real is a real number. -/
theorem exists_inv_real {s : EReal} (hs : s ≠ 0) : ∃ t : ℝ, s⁻¹ = (t : EReal) ∧ (4 * s)⁻¹ = ((t / 4 : ℝ) : EReal) := by
  induction s with
  | bot => exact ⟨0, by simp, by rw [EReal.mul_bot_of_pos (by norm_num)]; simp⟩
  | top => exact ⟨0, by simp, by rw [EReal.mul_top_of_pos (by norm_num)]; simp⟩
  | coe s =>
    refine ⟨s⁻¹, (EReal.coe_inv s).symm, ?_⟩
    rw [show (4 : EReal) = ((4 : ℝ) : EReal) by norm_cast, ← EReal.coe_mul, ← EReal.coe_inv]
    congr 1
    rw [mul_inv]
    ring

/-- Off the scale zero, the parabola's two shares add up to the parabola: the sum of the squares, negated, over four
times the scale. -/
theorem weight_add_weight {s : EReal} (hs : s ≠ 0) (i j : ℕ) :
    weight s j + weight s i
      = Ideal.div ((-(((i : ℝ) - 50) ^ 2 + ((j : ℝ) - 50) ^ 2) : ℝ) : EReal) (4 * s) := by
  obtain ⟨t, ht, ht4⟩ := exists_inv_real hs
  have h4 : (4 : EReal) * s ≠ 0 := mul_ne_zero (by norm_num) hs
  unfold weight Ideal.div
  rw [if_neg hs, if_neg h4, ht, ht4, ← EReal.coe_mul, ← EReal.coe_mul, ← EReal.coe_mul, ← EReal.coe_mul,
    ← EReal.coe_add]
  congr 1
  ring

end Cert.Dilate
-- ==== Proof.KernelBlock.lean ====
/-
  The kernel's result block over the extended reals: at each cell it is `dilated`, the dilation of the image by the
  parabola of the scale (`block_apply`).
-/
module

public import proofs.«01_k».proof.Proof.KernelFold
public import proofs.«01_k».proof.Proof.Dilation
public import Idealize.ShloMosaic.Lib.Pointwise

@[expose] public section

noncomputable section

namespace Cert.Dilate

open Cert.KernelIdeal Cert.KernelIdeal.Gen
open Idealize.ShloMosaic hiding ix1 ix2 ix3
open Idealize.ShloMosaic.ValueIdx

/-- The canvas at row `a` and column `b` is the padded image, transposed and moved down by six rows. -/
theorem canvas_apply (x : FVec Ideal S101x101 .f32) (a : Fin 224) (b : Fin 256) (h6 : 6 ≤ a.val) :
    k0_pay3 (F := Ideal) x (ix2 a b) = padded x b.val (a.val - 6) := by
  unfold padded
  pointwise [k0_pay3]
  simp only [ofBits_negInf]
  show (if h : a.val < 56 then (⊥ : EReal) else if h : a.val - 56 < 104 then
    if h : b.val < 50 then ⊥ else if hb : b.val - 50 < 101 then
      if ha : a.val - 56 < 101 then x (ix2 ⟨b.val - 50, hb⟩ ⟨a.val - 56, ha⟩) else ⊥ else ⊥ else ⊥) = _
  split_ifs <;> first | rfl | omega | (congr 2; omega)

/-- One more pair of taps, as arrays. -/
theorem fold_succ {σ : Shape} (T : ℕ → FVec Ideal σ .f32) (s : Ideal .f32) (n : ℕ) :
    fold T s (n + 1) = maximumf (fold T s n) (addf (maximumf (T n) (T (100 - n)))
      (broadcast σ (Scalar.mulf (Scalar.ofBits .f32 (wholeWord ((50 - n) * (50 - n)))) s))) := rfl

/-- What the operations of one pair do at an index. -/
theorem pair_apply {σ : Shape} (A B C : FVec Ideal σ .f32) (s : Ideal .f32) (w : BitVec 32) (y : σ.Idx) :
    maximumf A (addf (maximumf B C) (broadcast σ (Scalar.mulf (Scalar.ofBits .f32 w) s))) y
      = max (A y) (max (B y) (C y) + Ideal.ofBits .f32 w * s) := rfl

/-- The kernel's scale word is minus a quarter over the scale. -/
theorem scaleWord_eq (s : Ideal .f32) : k0_pay2 (F := Ideal) s = Ideal.div ((-1 / 4 : ℝ) : EReal) s := by
  rw [← ofBits_negQuarter]
  rfl

/-- The kernel's weight of the pair `n`, its word times the scale word, is the parabola's share. -/
theorem word_mul_scaleWord (s : Ideal .f32) (n : ℕ) (hn : n < 50) :
    Ideal.ofBits .f32 (wholeWord ((50 - n) * (50 - n))) * k0_pay2 (F := Ideal) s = weight s n := by
  have h1 : 1 ≤ (50 - n) * (50 - n) := Nat.mul_pos (by omega) (by omega)
  have h2 : (50 - n) * (50 - n) < 2 ^ 24 :=
    lt_of_le_of_lt (Nat.mul_le_mul (Nat.sub_le 50 n) (Nat.sub_le 50 n)) (by norm_num)
  have h3 : (((50 - n) * (50 - n) : ℕ) : ℝ) = ((n : ℝ) - 50) ^ 2 := by
    rw [Nat.cast_mul, Nat.cast_sub (by omega)]
    push_cast
    ring
  rw [ofBits_wholeWord _ h1 h2, h3, scaleWord_eq]
  rfl

/-- One pass at an index is the pairwise maximum of the taps there, with the weights of the kernel's scale. -/
theorem fold_apply {σ : Shape} (T : ℕ → FVec Ideal σ .f32) (s : Ideal .f32) (y : σ.Idx) (n : ℕ) (hn : n ≤ 50) :
    fold T (k0_pay2 s) n y = pairMax (fun k => T k y) (weight s) n := by
  induction n with
  | zero => rfl
  | succ n ih => rw [fold_succ, pair_apply, ih (by omega), word_mul_scaleWord s n (by omega), pairMax]

/-- One whole pass at an index is the maximum of all 101 taps there, each with its weight. -/
theorem fold_eq_sup {σ : Shape} (T : ℕ → FVec Ideal σ .f32) (s : Ideal .f32) (y : σ.Idx) :
    fold T (k0_pay2 s) 50 y = (Finset.range 101).sup fun k => T k y + weight s k := by
  rw [fold_apply T s y 50 le_rfl]
  exact pairMax_eq_sup _ _ (weight_centre s) (weight_symm s)

/-- The first pass at row `q` and column `r` is the maximum, over the taps, of the canvas `j + 6` rows further down. -/
theorem pass1_apply (arg4 : Memref sig .tc .vmem S8x216x256 .f32) (s : Ideal .f32) (x : FVec Ideal S101x101 .f32)
    (q : Fin 256) (r : Fin 104) :
    pass1 (F := Ideal) arg4 (k0_pay2 s) (k0_pay3 x) (ix2 q r)
      = (Finset.range 101).sup fun j => padded x q.val (j + r.val) + weight s j := by
  unfold pass1
  pointwise
  rw [fold_eq_sup]
  refine Finset.sup_congr rfl fun j hj => ?_
  have hj := Finset.mem_range.1 hj
  congr 1
  refine (stack_tap_apply _ (by decide) _ _ _ _ _ _ _ _).trans ?_
  rw [canvas_apply x _ _ (by simp; omega)]
  simp only
  show padded x q.val (j % 101 + 6 + r.val - 6) = _
  congr 1
  omega

/-- The result block at row `r` and column `c` is the dilation there. -/
theorem block_apply (arg4 : Memref sig .tc .vmem S8x216x256 .f32) (arg5 : Memref sig .tc .vmem S8x200x104 .f32)
    (s : Ideal .f32) (x : FVec Ideal S101x101 .f32) (r c : Fin 101) :
    block (F := Ideal) arg4 arg5 s x (ix2 r c) = dilated x s r.val c.val := by
  rw [← twoPass_eq_dilated]
  unfold block pass2
  pointwise
  rw [fold_eq_sup]
  refine Finset.sup_congr rfl fun i hi => ?_
  have hi := Finset.mem_range.1 hi
  congr 1
  refine (stack_tap_apply _ (by decide) _ _ _ _ _ _ _ _).trans ?_
  rw [pass1_apply]
  simp only [Nat.mod_eq_of_lt hi]

end Cert.Dilate

end
-- ==== Proof.KernelArray.lean ====
/-
  What the kernel leaves in its result array: at each cell, the dilation of the image argument by the parabola of the
  scale argument (`run_kernel`).
-/
module

public import proofs.«01_k».proof.Proof.KernelBlock
public import Idealize.ShloMosaic.Lib.Pipeline.ValueKit
public import Idealize.ShloMosaic.Lib.StableHlo.ReadAt

@[expose] public section

noncomputable section

namespace Cert.Dilate

open Cert.KernelIdeal Cert.KernelIdeal.Gen Idealize.ShloMosaic.TcCoe Idealize.SL.Sem
open Idealize.ShloMosaic hiding ix0 ix1 ix2 ix3
open Idealize.ShloMosaic.ValueIdx

/-- The dilation as an array of the image's shape. -/
def dilatedArray (x : FVec Ideal S101x101 .f32) (s : Ideal .f32) : FVec Ideal S101x101 .f32 :=
  fun i => dilated x s (i 0).val (i 1).val

variable (m : (ℓ : Loc nD τ sig) → Buf (Elt Ideal) ℓ) (ρ : Dev nD → PrngReg)

/-- The scale's one cell, after the operation before the kernel, is the scale argument. -/
theorem scale_entry (c : Dev nD) : V m c main_v0 (ix2 0 0) = m ((c : Thread nD τ).loc main_arg1) ix0 := by
  unfold V
  after_reads_at
  rfl

/-- The three windows stay at their first block. -/
theorem index_zero : ∀ t : Fin cfg0.N, win0_0.index t = ![0, 0] ∧ win0_1.index t = ![0, 0] ∧ win0_2.index t = ![0, 0] :=
  (by decide +kernel : ∀ t : Fin grid0.N, _)

/-- The kernel's scale block holds the scale argument. -/
theorem scale_block (c : Dev nD) (t : Fin cfg0.N) :
    iblk m c 0 t (ix2 0 0) = m ((c : Thread nD τ).loc main_arg1) ix0 := by
  rw [← scale_entry m c]
  have e := (index_zero t).1
  blk_simp [iblk, e]
  congr 1
  blk_ext [e]

/-- The kernel's image block holds the image argument. -/
theorem image_block (c : Dev nD) (t : Fin cfg0.N) : iblk m c 1 t = m ((c : Thread nD τ).loc main_arg0) := by
  have e := (index_zero t).2.1
  rw [← V_main_arg0 m c]
  funext z
  blk_simp [iblk, e]
  congr 1
  blk_ext [e]

/-- The result array after the kernel: the dilation of the image by the parabola of the scale. -/
theorem final_eq (c : Dev nD) :
    (dats m 0 c).arrAt 2 cfg0.N
      = dilatedArray (m ((c : Thread nD τ).loc main_arg0)) (m ((c : Thread nD τ).loc main_arg1) ix0) := by
  refine (dats m 0 c).arrAt_eq_of_covers 2 _ (by decide +kernel) fun t hf y => ?_
  have e := (index_zero t).2.2
  blk_simp
  rw [after0_2]
  unfold outsAt0
  rw [out_eq, image_block m c t, scale_block m c t]
  obtain ⟨a, b, rfl⟩ : ∃ a b : Fin 101, y = ix2 a b := ⟨y 0, y 1, funext fun k => by match k with | 0 => rfl | 1 => rfl⟩
  rw [block_apply]
  unfold dilatedArray
  blk_simp [e]

/-- The kernel's run: the result array ends as the dilation of the image by the parabola of the scale, and the two
arguments as they were. -/
theorem run_kernel : θ_run defs (onTc (τ := τ) (main (F := Ideal))) ⟨m, fun _ => 0, ρ⟩ fun r => ∀ c : Dev nD,
      r.2.mem ((c : Thread nD τ).loc main_v1)
        = dilatedArray (m ((c : Thread nD τ).loc main_arg0)) (m ((c : Thread nD τ).loc main_arg1) ix0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Cert.KernelIdeal.Value.run_blocks m ρ)

end Cert.Dilate

end
-- ==== Proof.ReferenceEntry.lean ====
/-
  What the reference's loop starts from, over the extended reals: the padded image, the column numbers, the parabola,
  the counter at zero and the result at `⊥`.
-/
module

public import proofs.«01_k».proof.Proof.Gen.ReferenceIdeal.Run
public import proofs.«01_k».proof.Proof.Dilation
public import proofs.«01_k».proof.Proof.Words
public import Idealize.ShloMosaic.Lib.StableHlo.ReadAt
public import Idealize.ShloMosaic.Lib.Pointwise
public import Idealize.ShloMosaic.Lib.DynamicIndex

@[expose] public section

noncomputable section

namespace Cert.Dilate

open Cert.ReferenceIdeal Cert.ReferenceIdeal.Gen Cert.ReferenceIdeal.Value Idealize.ShloMosaic.TcCoe Idealize.SL.Sem
open Idealize.ShloMosaic.StableHlo
open Idealize.ShloMosaic hiding ix0 ix1 ix2 ix3
open Idealize.ShloMosaic.ValueIdx

variable (m : (ℓ : Loc nD τ sig) → Buf (Elt Ideal) ℓ) (c : Dev nD)

/-- The loop's list of trips holds the naturals below 101. -/
theorem entry_numbers : entryContents preI m c (Proc.devRef .tc main_v20_0) = iotaInDim S101 32 0 := by
  simp only [entryContents, afterL_cons, afterL_nil]
  after_reads_simp
  rfl

/-- The loop starts with its counter at zero. -/
theorem entry_counter : entryContents preI m c (Proc.devRef .tc main_v20_4) = constantI S_ 32 (BitVec.ofNat 32 0) :=
  (ctr_entry m c).trans rfl

/-- The loop's padded image. -/
theorem entry_image (a b : Fin 201) :
    @Eq EReal (entryContents preI m c (Proc.devRef .tc main_v20_1) (ix2 a b))
      (padded (m ((c : Thread nD τ).loc main_arg0)) a.val b.val) := by
  simp only [entryContents, afterL_cons, afterL_nil]
  after_reads_at
  pointwise [id]
  rw [ofBits_negInf]
  rfl

/-- The loop's column numbers: tap `j` of result row `r` reads column `r + j`. -/
theorem entry_columns (r j : Fin 101) :
    entryContents preI m c (Proc.devRef .tc main_v20_2) (ix2 r j) = BitVec.ofNat 32 (r.val + j.val) := by
  simp only [entryContents, afterL_cons, afterL_nil]
  after_reads_at
  pointwise [id]
  exact (BitVec.ofNat_add r.val j.val).symm

/-- The loop's result starts at `⊥`. -/
theorem entry_result (r s : Fin 101) :
    @Eq EReal (entryContents preI m c (Proc.devRef .tc main_v20_5) (ix2 r s)) ⊥ := by
  simp only [entryContents, afterL_cons, afterL_nil]
  after_reads_at
  pointwise [id]
  exact ofBits_negInf

/-- The 101 evenly spaced points are the whole numbers from -50 to 50. -/
theorem points_apply (V : Valuation τ sig (Elt Ideal)) (i : Fin 101) :
    @Eq EReal (after hostOps0_1 (after hostOps0 V) (Proc.devRef .tc main_v0) (ix1 i)) (((i.val : ℝ) - 50 : ℝ) : EReal) := by
  after_reads_at
  after_reads_at
  rw [ofBits_hundred, Ideal.div_coe (by norm_num)]
  have hw : ∀ w : BitVec 32, (FloatOps.sitofp .f32 w : Ideal .f32) = (((w.toInt : ℤ) : ℝ) : EReal) := fun _ => rfl
  rw [hw, hw, hw, show (4294967246#32 : BitVec 32).toInt = -50 by decide, show (50#32 : BitVec 32).toInt = 50 by decide,
    show ((ix1 i 0 : Fin 101).val) = i.val from rfl, toInt_ofNat_of_lt (by omega), ← EReal.coe_one, ← EReal.coe_mul,
    ← EReal.coe_sub, ← EReal.coe_mul, ← EReal.coe_mul, ← EReal.coe_add]
  split_ifs with h
  · congr 1
    push_cast
    ring
  · have hi : i.val = 100 := by have := i.isLt; omega
    rw [hi]
    norm_num

/-- The loop's parabola: at tap row `i` and tap column `j` the two axes' shares. -/
theorem entry_parabola (i j : Fin 101) (hs : @Ne EReal (m ((c : Thread nD τ).loc main_arg1) ix0) 0) :
    @Eq EReal (entryContents preI m c (Proc.devRef .tc main_v20_3) (ix2 i j))
      (weight (m ((c : Thread nD τ).loc main_arg1) ix0) j.val + weight (m ((c : Thread nD τ).loc main_arg1) ix0) i.val) := by
  simp only [entryContents, afterL_cons, afterL_nil]
  have hz := points_apply (launchContents m c)
  have ha : after hostOps0_1 (after hostOps0 (launchContents m c)) (Proc.devRef .tc main_arg1)
      = m ((c : Thread nD τ).loc main_arg1) := by
    rw [keep_main_arg1_hostOps0_1, keep_main_arg1_hostOps0]
  rw [← ha] at hs ⊢
  generalize after hostOps0_1 (after hostOps0 (launchContents m c)) = W at hz hs ⊢
  rw [weight_add_weight hs]
  after_reads_at
  pointwise [id]
  have hi : @Eq EReal (W (Proc.devRef .tc main_v0) (Idealize.ShloMosaic.ix1 (ix2 i j 0))) _ := hz i
  have hj : @Eq EReal (W (Proc.devRef .tc main_v0) (Idealize.ShloMosaic.ix1 (ix2 i j 1))) _ := hz j
  rw [hi, hj, ofBits_four, ← EReal.coe_mul, ← EReal.coe_mul, ← EReal.coe_add, ← EReal.coe_neg, ← pow_two, ← pow_two]
  rfl

end Cert.Dilate

end
-- ==== Proof.ReferenceGather.lean ====
/-
  How the reference's gather and its wrap of negative indices read at an index.
-/
module

public import proofs.«01_k».proof.Proof.Gen.ReferenceIdeal
public import Idealize.ShloMosaic.Lib.Pointwise
public import Idealize.ShloMosaic.Lib.DynamicIndex

@[expose] public section

noncomputable section

namespace Cert.Dilate

open Cert.ReferenceIdeal Cert.ReferenceIdeal.Gen
open Idealize.ShloMosaic hiding ix0 ix1 ix2 ix3
open Idealize.ShloMosaic.ValueIdx

/-- The gather of columns: at slab row `c`, result row `r` and tap `k` it reads the slab's row `c` at the column the
index array names at `(r, k)`. -/
theorem gather_columns_apply {α : Type} (x : S101x201.Idx → α) (idx : IVec S101x101x1 32) (c r k : Fin 101) (n : ℕ)
    (hn : n < 201) (h : (idx (ix3 r k 0)).toInt = (n : ℤ)) :
    Host.gather gather_S101x201_S101x101x1_S101x101x101_0_1_n_n_1_2_1011 x idx (ix3 c r k) = x (ix2 c ⟨n, hn⟩) := by
  unfold Host.gather
  congr 1
  funext a
  refine Fin.ext ?_
  set d := gather_S101x201_S101x101x1_S101x101x101_0_1_n_n_1_2_1011 with hd
  show d.start (ix3 c r k) idx a + d.batchCoord (ix3 c r k) a + d.offCoord (ix3 c r k) a = _
  rw [d.batchCoord_eq_zero _ a (List.not_mem_nil), Nat.add_zero]
  match a with
  | ⟨0, _⟩ =>
    have hs : d.start (ix3 c r k) idx (0 : Fin 2) = 0 := by
      unfold GatherDims.start
      rw [dif_neg (by decide)]
    have ho : d.offCoord (ix3 c r k) (0 : Fin 2) = c.val := by
      unfold GatherDims.offCoord
      rw [dif_pos (by decide)]
      rfl
    show d.start (ix3 c r k) idx (0 : Fin 2) + d.offCoord (ix3 c r k) (0 : Fin 2) = c.val
    rw [hs, ho, Nat.zero_add]
  | ⟨1, _⟩ =>
    have ho : d.offCoord (ix3 c r k) (1 : Fin 2) = 0 := d.offCoord_eq_zero _ _ (by decide)
    have hs : d.start (ix3 c r k) idx (1 : Fin 2) = n := by
      unfold GatherDims.start
      rw [dif_pos (by decide)]
      have hi : d.siIdx (ix3 c r k) ⟨d.startIndexMap.idxOf (1 : Fin 2), by decide⟩ = ix3 r k 0 := by
        funext b
        match b with
        | ⟨0, _⟩ => rfl
        | ⟨1, _⟩ => rfl
        | ⟨2, _⟩ => rfl
      rw [hi, h]
      show min (n : ℤ).toNat (201 - 1) = n
      rw [Int.toNat_natCast]
      omega
    show d.start (ix3 c r k) idx (1 : Fin 2) + d.offCoord (ix3 c r k) (1 : Fin 2) = n
    rw [hs, ho, Nat.add_zero]

/-- Where an index word is a number below `2 ^ 31`, the choice that makes a negative index count from the end keeps it. -/
theorem wrap_toInt {s : Shape} (v z d : IVec s 32) (i : s.Idx) (n : ℕ) (hn : n < 2 ^ 31) (hz : z i = 0#32)
    (hv : v i = BitVec.ofNat 32 n) : (select (cmpi .slt v z) (addi v d) v i).toInt = (n : ℤ) := by
  have hi : (v i).toInt = (n : ℤ) := by rw [hv]; exact toInt_ofNat_of_lt hn
  have hlt : (v i).slt (z i) = false := by
    rw [hz]
    simp only [BitVec.slt, BitVec.toInt_zero, decide_eq_false_iff_not, Int.not_lt, hi]
    exact Int.natCast_nonneg n
  show (if BitVec.ofBool ((v i).slt (z i)) = 1 then _ else v i).toInt = _
  rw [hlt]
  exact hi

end Cert.Dilate

end
-- ==== Proof.ReferenceTrip.lean ====
/-
  One trip of the reference's loop over the extended reals. `trip_apply` says that trip `k` raises each cell of the
  result to the maximum, over the tap's columns, of the padded image moved by `k` rows plus row `k` of the parabola.
-/
module

public import proofs.«01_k».proof.Proof.Gen.ReferenceIdeal.Run
public import proofs.«01_k».proof.Proof.Dilation
public import proofs.«01_k».proof.Proof.ReferenceGather
public import proofs.«01_k».proof.Proof.Words
public import Idealize.ShloMosaic.Lib.Pointwise
public import Idealize.ShloMosaic.Lib.DynamicIndex

@[expose] public section

noncomputable section

namespace Cert.Dilate

open Cert.ReferenceIdeal Cert.ReferenceIdeal.Gen Cert.ReferenceIdeal.Value Idealize.ShloMosaic.TcCoe Idealize.SL.Sem
open Idealize.ShloMosaic hiding ix0 ix1 ix2 ix3
open Idealize.ShloMosaic.ValueIdx

/-- The trip's number, read out of the list of the trips, is the counter. -/
theorem tripNumber_eq (V0 : Valuation τ sig (Elt Ideal)) (k : ℕ) (hk : k < 101)
    (h0 : V0 (Proc.devRef .tc main_v20_0) = iotaInDim S101 32 0)
    (h4 : V0 (Proc.devRef .tc main_v20_4) = constantI S_ 32 (BitVec.ofNat 32 k)) :
    res_main_while0b_v21 V0 = constantI S_ 32 (BitVec.ofNat 32 k) := by
  unfold res_main_while0b_v21
  rw [h0, Host.dynamicSlice_eq_extractStridedSlice S1 (iotaInDim S101 32 0) _ ![k] _ ⟨rfl, fun a => by
    match a with | ⟨0, _⟩ => show k + 1 ≤ 101; omega⟩ (fun a => by
    match a with
    | ⟨0, _⟩ =>
      show (V0 (Proc.devRef .tc main_v20_4) _).toInt = (k : ℤ)
      rw [h4]
      exact toInt_ofNat_of_lt (by omega))]
  funext y
  pointwise

/-- What trip `k` leaves in the result, of the padded image `P`, the column numbers `J`, the parabola `Q` and the
result `O` it finds. -/
theorem trip_apply (V0 : Valuation τ sig (Elt Ideal)) (P : FVec Ideal S201x201 .f32) (J : IVec S101x101 32)
    (Q O : FVec Ideal S101x101 .f32) (p q : ℕ → ℕ → EReal) (k : ℕ) (hk : k < 101)
    (h0 : V0 (Proc.devRef .tc main_v20_0) = iotaInDim S101 32 0) (h1 : V0 (Proc.devRef .tc main_v20_1) = P)
    (h2 : V0 (Proc.devRef .tc main_v20_2) = J) (h3 : V0 (Proc.devRef .tc main_v20_3) = Q)
    (h4 : V0 (Proc.devRef .tc main_v20_4) = constantI S_ 32 (BitVec.ofNat 32 k))
    (h5 : V0 (Proc.devRef .tc main_v20_5) = O)
    (hP : ∀ a b : Fin 201, P (ix2 a b) = p a.val b.val)
    (hJ : ∀ r j : Fin 101, J (ix2 r j) = BitVec.ofNat 32 (r.val + j.val))
    (hQ : ∀ i j : Fin 101, Q (ix2 i j) = q i.val j.val) (r c : Fin 101) :
    @Eq EReal (step_main_v20_5 V0 (ix2 r c))
      (max (α := EReal) (O (ix2 r c)) ((Finset.range 101).sup fun j => p (k + c.val) (j + r.val) + q k j)) := by
  unfold step_main_v20_5
  rw [tripNumber_eq V0 k hk h0 h4, h1, h2, h3, h5]
  rw [Host.dynamicSlice_eq_extractStridedSlice S101x201 P _ ![k, 0] _ ⟨rfl, fun a => by
      match a with
      | ⟨0, _⟩ => show k + 101 ≤ 201; omega
      | ⟨1, _⟩ => show 0 + 201 ≤ 201; omega⟩ (fun a => by
      match a with
      | ⟨0, _⟩ => exact toInt_wrap_ofNat k (by omega)
      | ⟨1, _⟩ => rfl),
    Host.dynamicSlice_eq_extractStridedSlice S1x101 Q _ ![k, 0] _ ⟨rfl, fun a => by
      match a with
      | ⟨0, _⟩ => show k + 1 ≤ 101; omega
      | ⟨1, _⟩ => show 0 + 101 ≤ 101; omega⟩ (fun a => by
      match a with
      | ⟨0, _⟩ => exact toInt_wrap_ofNat k (by omega)
      | ⟨1, _⟩ => rfl)]
  pointwise [id]
  rw [ofBits_negInf, ← fold_max_eq_sup]
  refine congrArg (max (α := EReal) (O (ix2 r c))) (congrArg (fun f => Finset.univ.fold max ⊥ f) (funext fun j => ?_))
  refine congrArg₂ (fun a b : EReal => a + b) ?_ (hQ ⟨k, hk⟩ j)
  refine (gather_columns_apply _ _ c r j (j.val + r.val) (by omega) ?_).trans ?_
  · pointwise
    exact wrap_toInt J (fun _ => 0#32) (fun _ => 201#32) (ix2 r j) (j.val + r.val) (by omega) rfl
      ((hJ r j).trans (by rw [Nat.add_comm]))
  · pointwise
    exact hP ⟨k + c.val, by omega⟩ ⟨j.val + r.val, by omega⟩

end Cert.Dilate

end
-- ==== Proof.ReferenceArray.lean ====
/-
  What the reference leaves in its result array, over the extended reals and off the scale zero: at each cell, the
  dilation of the image argument by the parabola of the scale argument (`reference_apply`).
-/
module

public import proofs.«01_k».proof.Proof.ReferenceEntry
public import proofs.«01_k».proof.Proof.ReferenceTrip

@[expose] public section

noncomputable section

namespace Cert.Dilate

open Cert.ReferenceIdeal Cert.ReferenceIdeal.Gen Cert.ReferenceIdeal.Value Idealize.ShloMosaic.TcCoe Idealize.SL.Sem
open Idealize.ShloMosaic.StableHlo
open Idealize.ShloMosaic hiding ix0 ix1 ix2 ix3
open Idealize.ShloMosaic.ValueIdx

variable (m : (ℓ : Loc nD τ sig) → Buf (Elt Ideal) ℓ)

/-- What the loop's buffers hold before trip `k`: what it started with, the counter at `k`, and in the result the
maximum over the first `k` tap rows. -/
structure Before (V : Valuation τ sig (Elt Ideal)) (x : FVec Ideal S101x101 .f32) (s : EReal) (k : ℕ) : Prop where
  numbers : V (Proc.devRef .tc main_v20_0) = iotaInDim S101 32 0
  image : ∀ a b : Fin 201, @Eq EReal (V (Proc.devRef .tc main_v20_1) (ix2 a b)) (padded x a.val b.val)
  columns : ∀ r j : Fin 101, V (Proc.devRef .tc main_v20_2) (ix2 r j) = BitVec.ofNat 32 (r.val + j.val)
  parabola : ∀ i j : Fin 101, @Eq EReal (V (Proc.devRef .tc main_v20_3) (ix2 i j)) (weight s j.val + weight s i.val)
  counter : V (Proc.devRef .tc main_v20_4) = constantI S_ 32 (BitVec.ofNat 32 k)
  result : ∀ r c : Fin 101, @Eq EReal (V (Proc.devRef .tc main_v20_5) (ix2 r c))
    ((Finset.range k).sup fun i => (Finset.range 101).sup fun j =>
      padded x (i + c.val) (j + r.val) + (weight s j + weight s i))

/-- The loop's entry is the state before trip zero. -/
theorem before_entry (c : Dev nD) (hs : @Ne EReal (m ((c : Thread nD τ).loc main_arg1) ix0) 0) :
    Before (entryContents preI m c) (m ((c : Thread nD τ).loc main_arg0)) (m ((c : Thread nD τ).loc main_arg1) ix0) 0 where
  numbers := entry_numbers m c
  image := entry_image m c
  columns := entry_columns m c
  parabola i j := entry_parabola m c i j hs
  counter := entry_counter m c
  result r s := entry_result m c r s

/-- A trip takes the state before it to the state before the next. -/
theorem before_succ {V : Valuation τ sig (Elt Ideal)} {x : FVec Ideal S101x101 .f32} {s : EReal} {k : ℕ} (hk : k < 101)
    (h : Before V x s k) : Before (STEP V) x s (k + 1) where
  numbers := (STEP_main_v20_0 V).trans h.numbers
  image a b := (congrFun (STEP_main_v20_1 V) _).trans (h.image a b)
  columns r j := (congrFun (STEP_main_v20_2 V) _).trans (h.columns r j)
  parabola i j := (congrFun (STEP_main_v20_3 V) _).trans (h.parabola i j)
  counter := by
    rw [STEP_main_v20_4]
    unfold step_main_v20_4
    rw [h.counter]
    funext y
    exact (BitVec.ofNat_add k 1).symm
  result r c := by
    rw [STEP_main_v20_5, sup_range_succ]
    exact (trip_apply V _ _ _ _ (padded x) (fun i j => weight s j + weight s i) k hk h.numbers rfl rfl rfl h.counter rfl
      h.image h.columns h.parabola r c).trans (congrArg (fun t => max t _) (h.result r c))

/-- After `k` trips the state before trip `k`. -/
theorem before_iterate (c : Dev nD) (hs : @Ne EReal (m ((c : Thread nD τ).loc main_arg1) ix0) 0) (k : ℕ) (hk : k ≤ 101) :
    Before (STEP^[k] (entryContents preI m c)) (m ((c : Thread nD τ).loc main_arg0))
      (m ((c : Thread nD τ).loc main_arg1) ix0) k := by
  induction k with
  | zero => exact before_entry m c hs
  | succ k ih =>
    rw [Function.iterate_succ_apply']
    exact before_succ (by omega) (ih (by omega))

/-- The result array after the reference's loop, at row `r` and column `c`: the dilation there. -/
theorem reference_apply (d : Dev nD) (hs : @Ne EReal (m ((d : Thread nD τ).loc main_arg1) ix0) 0) (r c : Fin 101) :
    @Eq EReal ((STEP^[101] (entryContents preI m d)) (Proc.devRef .tc main_v20_5) (ix2 r c))
      (dilated (m ((d : Thread nD τ).loc main_arg0)) (m ((d : Thread nD τ).loc main_arg1) ix0) r.val c.val) :=
  (before_iterate m d hs 101 le_rfl).result r c

end Cert.Dilate

end
-- ==== Proof.Equation.lean ====
/-
  The equation of the two programs over the extended reals: off the scale zero the reference's result array is the
  dilation the kernel's is (`run_reference`), and the precondition says the scale is off zero (`scale_ne_zero`).
-/
module

public import proofs.«01_k».proof.Defs
public import proofs.«01_k».proof.Proof.KernelArray
public import proofs.«01_k».proof.Proof.ReferenceArray

@[expose] public section

noncomputable section

namespace Cert.Dilate

open Idealize.ShloMosaic.TcCoe Idealize.SL.Sem
open Idealize.ShloMosaic hiding ix0 ix1 ix2 ix3
open Idealize.ShloMosaic.ValueIdx

/-- The precondition's function is one only where the scale is not zero. -/
theorem scale_ne_zero [Cert.Pre_scale_nonzero.Facts] (x : FVec Ideal Cert.Pre_scale_nonzero.S101x101 .f32)
    (s : FVec Ideal Cert.Pre_scale_nonzero.S_ .f32)
    (h : Cert.Pre_scale_nonzero.fn (F := Ideal) x s = fun _ => 1#1) : @Ne EReal (s ix0) 0 := by
  intro h0
  have h1 : Ideal.cmp .une (s ix0) (Ideal.ofBits .f32 0x00000000#32) = 1#1 := congrFun h ix0
  rw [Ideal.ofBits_zero_f32, h0] at h1
  simp [Ideal.cmp] at h1

section Reference

open Cert.ReferenceIdeal Cert.ReferenceIdeal.Value Idealize.ShloMosaic.StableHlo

variable (m : (ℓ : Loc nD τ sig) → Buf (Elt Ideal) ℓ) (ρ : Dev nD → PrngReg)

/-- The reference's result array after its loop is the dilation of its image by the parabola of its scale, when the
scale is not zero. -/
theorem reference_array (d : Dev nD) (hs : @Ne EReal (m ((d : Thread nD τ).loc main_arg1) ix0) 0) :
    (STEP^[101] (entryContents preI m d)) (Proc.devRef .tc main_v20_5)
      = dilatedArray (m ((d : Thread nD τ).loc main_arg0)) (m ((d : Thread nD τ).loc main_arg1) ix0) := by
  funext i
  obtain ⟨r, c, rfl⟩ : ∃ r c : Fin 101, i = ix2 r c := ⟨i 0, i 1, by funext a; match a with | 0 => rfl | 1 => rfl⟩
  exact reference_apply m d hs r c

/-- Every run of the reference from a memory whose scale is not zero leaves the dilation in the result and the arguments
as they were. -/
theorem run_reference (hs : ∀ d : Dev nD, @Ne EReal (m ((d : Thread nD τ).loc main_arg1) ix0) 0) :
    θ_run defs (onTc (τ := τ) (main (F := Ideal))) ⟨m, fun _ => 0, ρ⟩ fun r => ∀ d : Dev nD,
      r.2.mem ((d : Thread nD τ).loc main_v20_5)
          = dilatedArray (m ((d : Thread nD τ).loc main_arg0)) (m ((d : Thread nD τ).loc main_arg1) ix0)
        ∧ r.2.mem ((d : Thread nD τ).loc main_arg0) = m ((d : Thread nD τ).loc main_arg0)
        ∧ r.2.mem ((d : Thread nD τ).loc main_arg1) = m ((d : Thread nD τ).loc main_arg1) :=
  (θ_run defs _ _).mono (fun _ h d => ⟨(h d).1.trans (reference_array m d (hs d)), (h d).2⟩) (run m ρ)

end Reference

end Cert.Dilate

end
-- ==== Proof.lean ====
/-
  The certificate's claim: the three programs run and leave their arguments as they were, the idealized kernel is the
  kernel's idealization, and over the extended reals kernel and reference compute the same array off the scale zero.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent

@[expose] public section

noncomputable section

namespace Cert.Proof

open Idealize.ShloMosaic Idealize.SL.Sem

/-- The reference runs from every memory, leaves its arguments as they were, and ends with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- From memories that agree on the image and on a scale that is not zero, kernel and reference end with the same
array, the dilation. -/
theorem kernel_eq_reference [hPre : Cert.Pre_scale_nonzero.Facts] :
    Cert.algebraic_KernelIdeal_ReferenceIdeal_pre_scale_nonzero (hKernelIdeal := Cert.KernelIdeal.Gen.facts)
      (hReferenceIdeal := Cert.ReferenceIdeal.Gen.facts) (hPre_scale_nonzero := hPre) := by
  intro m ρ m' ρ' hs hm
  refine ⟨_, Cert.Dilate.run_kernel m ρ, ?_⟩
  have hs' : ∀ d : Dev Cert.ReferenceIdeal.nD,
      @Ne EReal (m' ((d.tc : Thread Cert.ReferenceIdeal.nD Cert.ReferenceIdeal.τ).loc Cert.ReferenceIdeal.main_arg1)
        ValueIdx.ix0) 0 := by
    intro d
    rw [(hm d).2]
    exact Cert.Dilate.scale_ne_zero _ _ (hs d)
  refine (θ_run _ _ _).mono ?_ (Cert.Dilate.run_reference m' ρ' hs')
  intro r h c
  refine ⟨(h c).1.trans ?_, (h c).2⟩
  rw [(hm c).1, (hm c).2]

/-- All claims of the certificate. -/
theorem claim : Cert.Claim :=
  ⟨Cert.Kernel.Gen.facts, Cert.KernelIdeal.Gen.facts, Cert.ReferenceIdeal.Gen.facts, ⟨⟩,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    kernel_eq_reference (hPre := ⟨⟩)⟩

end Cert.Proof

end
